-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_arg0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S8x3x512x512 : Shape := ⟨4, ![8, 3, 512, 512]⟩
abbrev S12288x512 : Shape := ⟨2, ![12288, 512]⟩
abbrev S1536x512 : Shape := ⟨2, ![1536, 512]⟩
abbrev S4608x512 : Shape := ⟨2, ![4608, 512]⟩
abbrev S6144x512 : Shape := ⟨2, ![6144, 512]⟩
abbrev S3 : Shape := ⟨1, ![3]⟩
abbrev S1 : Shape := ⟨1, ![1]⟩
abbrev S_ : Shape := ⟨0, ![]⟩

abbrev nBuf : Space → Nat
  | .hbm => 4
  | .vmem => 3
  | .smem => 0
  | _ => 0

abbrev bufTy : (tb : Table) → Fin (tcTables nBuf tb) → BufTy
  | .hbm, ⟨0, _⟩ => ⟨S8x3x512x512, .f32⟩
  | .hbm, ⟨1, _⟩ => ⟨S12288x512, .f32⟩
  | .hbm, ⟨2, _⟩ => ⟨S12288x512, .f32⟩
  | .hbm, ⟨3, _⟩ => ⟨S8x3x512x512, .f32⟩
  | .local _ .vmem, ⟨0, _⟩ => ⟨S1536x512, .f32⟩
  | .local _ .vmem, ⟨1, _⟩ => ⟨S4608x512, .f32⟩
  | .local _ .vmem, ⟨2, _⟩ => ⟨S6144x512, .f32⟩
  | _, _ => ⟨S8x3x512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩

abbrev nD : Nat := 1
abbrev τ : Topo := Topo.v7x

variable {F : FTy → Type} [FloatOps F]

abbrev grid0 : Pipeline.Grid := .none
-- ==== Reference.lean ====
abbrev S8x3x512x512 : Shape := ⟨4, ![8, 3, 512, 512]⟩

abbrev nBuf : Space → Nat
  | .hbm => 1
  | .vmem => 0
  | .smem => 0
  | _ => 0

abbrev bufTy : (tb : Table) → Fin (tcTables nBuf tb) → BufTy
  | .hbm, ⟨0, _⟩ => ⟨S8x3x512x512, .f32⟩
  | _, _ => ⟨S8x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Body.lean ====
/- The kernel body's run. The body copies the 12288 rows of its source into its destination in three bands of rows
   (1536 rows from row 0, 4608 from row 1536, 6144 from row 6144), each band through a buffer of its own in vector memory
   and over two semaphores of its own, all three loads issued before the first is waited for and all three stores issued
   before the first is waited for. `body_run` says that the body ends with the destination equal to the source, the source
   as it was and all six semaphores at zero. Hand-written, untrusted. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp

@[expose] public section

set_option maxRecDepth 16384

noncomputable section

namespace Cert.Kernel.Copy

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The propositions of the proof: the pipeline library's algebra beside the transfers' counters. -/
local notation "𝕄" => MT nD τ sig Unit (Elt F) ℕ (Pipeline.UD sig nD τ) ℕ

/-! ## The body's operands -/

/-- The source in HBM: the argument at 12288 rows of 512. -/
abbrev src : Memref sig .tc .hbm S12288x512 .f32 := Memref.whole main_v0
/-- The destination in HBM. -/
abbrev dst : Memref sig .tc .hbm S12288x512 .f32 := Memref.whole main_v1
/-- The first band's buffer. -/
abbrev buf0 : Memref sig .tc .vmem S1536x512 .f32 := Memref.whole cc0_scratch0
/-- The second band's buffer. -/
abbrev buf1 : Memref sig .tc .vmem S4608x512 .f32 := Memref.whole cc0_scratch1
/-- The third band's buffer. -/
abbrev buf2 : Memref sig .tc .vmem S6144x512 .f32 := Memref.whole cc0_scratch2

/-- Contents at the shape and type of the source and of the destination. -/
abbrev Rows : Type := S12288x512.Idx → Elt F .f32

/-- `M`'s buffer on core `c`, held whole at contents `f`. -/
abbrev held (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- The three buffers, each whole at some contents. -/
abbrev scratch (c : Dev nD) : sProp 𝕄 :=
  iprop((∃ f, held (F := F) c buf0 f) ∗ (∃ f, held (F := F) c buf1 f) ∗ (∃ f, held (F := F) c buf2 f))

/-- The six semaphores at zero: the three loads', then the three stores'. -/
abbrev cells (c : Dev nD) : sProp 𝕄 :=
  iprop(semVal ((c : Thread nD τ), SemLoc.dma 0) 0 ∗ semVal ((c : Thread nD τ), SemLoc.dma 1) 0
    ∗ semVal ((c : Thread nD τ), SemLoc.dma 2) 0 ∗ semVal ((c : Thread nD τ), SemLoc.dma 3) 0
    ∗ semVal ((c : Thread nD τ), SemLoc.dma 4) 0 ∗ semVal ((c : Thread nD τ), SemLoc.dma 5) 0)

/-! ## The three bands -/

/-- The first band: rows 0 to 1535. -/
abbrev band0 : Rect S12288x512 := Rect.unit (s := S12288x512) ![0, 0] S1536x512.size inb_S12288x512_S1536x512_0_0
/-- The second band: rows 1536 to 6143. -/
abbrev band1 : Rect S12288x512 := Rect.unit (s := S12288x512) ![1536, 0] S4608x512.size inb_S12288x512_S4608x512_1536_0
/-- The third band: rows 6144 to 12287. -/
abbrev band2 : Rect S12288x512 := Rect.unit (s := S12288x512) ![6144, 0] S6144x512.size inb_S12288x512_S6144x512_6144_0

/-- Every element of the array lies in one of the three bands. -/
theorem bands_cover (y : S12288x512.Idx) : y ∈ band0.set ∨ y ∈ band1.set ∨ y ∈ band2.set := by
  have h0 : (y 0).val < 12288 := (y 0).isLt
  have h1 : (y 1).val < 512 := (y 1).isLt
  simp only [Rect.mem_set_unit, Fin.forall_fin_two, Matrix.cons_val_zero, Matrix.cons_val_one]
  omega

/-- Writing to each of three rectangles that cover a buffer what `G` holds there leaves the buffer at `G`. -/
theorem pieces_written {κ : Kind} (b : Ref sig κ) (f G : b.ty.Contents (Elt F)) (r0 r1 r2 : Rect b.ty.shape)
    (w0 : r0.shape.Idx → Elt F b.ty.elt) (w1 : r1.shape.Idx → Elt F b.ty.elt) (w2 : r2.shape.Idx → Elt F b.ty.elt)
    (h0 : ∀ i, w0 i = G (r0.emb i)) (h1 : ∀ i, w1 i = G (r1.emb i)) (h2 : ∀ i, w2 i = G (r2.emb i))
    (h : ∀ y, y ∈ r0.set ∨ y ∈ r1.set ∨ y ∈ r2.set) : (View.whole b).writes (Elt F) f [⟨r2, w2⟩, ⟨r1, w1⟩, ⟨r0, w0⟩] = G := by
  funext y
  refine (congrFun (View.read_whole b _).symm y).trans (View.read_writes_apply_of_pieces (View.whole b) f G _ ?_ y ?_)
  · intro p hp
    simp only [List.mem_cons, List.mem_nil_iff, or_false] at hp
    rcases hp with rfl | rfl | rfl <;> assumption
  · rcases h y with h | h | h
    · exact ⟨_, List.mem_cons_of_mem _ (List.mem_cons_of_mem _ List.mem_cons_self), h⟩
    · exact ⟨_, List.mem_cons_of_mem _ List.mem_cons_self, h⟩
    · exact ⟨_, List.mem_cons_self, h⟩

/-! ## The run -/

set_option sl_exec.dmaWindow true in
/-- The body, from the source at `X`, the destination at `Y`, the buffers at anything and the semaphores at zero: it ends
    with the source and the destination at `X`, the buffers at something and the semaphores at zero. -/
theorem body_run (c : Dev nD) (X Y : Rows (F := F)) (W : Waits sig Unit) (K : PUnit → sProp 𝕄) :
    iprop(scratch (F := F) c ∗ cells (F := F) c ∗ held c src X ∗ held c dst Y ∗ owes (c : Thread nD τ) 0 W
      ∗ (iprop(scratch (F := F) c ∗ cells (F := F) c ∗ held c src X ∗ held c dst X ∗ (∃ W', owes (c : Thread nD τ) 0 W')) -∗ K ⟨⟩))
      ⊢ wp frame (wpE (defs₀ (F := F)) Variants.none c none) Set.univ
          (cc0__copy_kernel src (Memref.isWhole_whole _) dst (Memref.isWhole_whole _) buf0 (Memref.isWhole_whole _)
            buf1 (Memref.isWhole_whole _) buf2 (Memref.isWhole_whole _) cc0_scratch3 cc0_scratch4) K := by
  simp only [cc0__copy_kernel_eq_skeleton]
  unfold cc0__copy_kernel_skel
  simp only [k0_part1_eq_skeleton]
  unfold k0_part1_skel
  iintro ⟨⟨⟨%f0, H0⟩, ⟨%f1, H1⟩, ⟨%f2, H2⟩⟩, ⟨Hc0, Hc1, Hc2, Hc3, Hc4, Hc5⟩, Hs, Hd, HW, Hk⟩
  sl_exec
  sl_step
  iapply Hk
  isplitl [H0 H1 H2]
  · isplitl [H0]; · iexists _; iexact H0
    isplitl [H1]; · iexists _; iexact H1
    iexists _; iexact H2
  isplitl [Hc0 Hc1 Hc2 Hc3 Hc4 Hc5]
  · isplitl [Hc0]; · iexact Hc0
    isplitl [Hc1]; · iexact Hc1
    isplitl [Hc2]; · iexact Hc2
    isplitl [Hc3]; · iexact Hc3
    isplitl [Hc4]; · iexact Hc4
    iexact Hc5
  isplitl [Hs]; · iexact Hs
  isplitl [Hd]
  · unfold body_run.sl.dma0_5 body_run.sl.dma0_4 body_run.sl.dma0_3 body_run.sl.dma0_2 body_run.sl.dma0_1 body_run.sl.dma0
    simp only [ReadAs.apply_same, View.read_write_univ]
    iapply (Entails.of_eq (congrArg (held (F := F) c dst) (pieces_written main_v1 Y X band0 band1 band2 _ _ _
      (fun _ => rfl) (fun _ => rfl) (fun _ => rfl) bands_cover)))
    iexact Hd
  iexists _; iexact HW

end Cert.Kernel.Copy

end
-- ==== Proof.Run.lean ====
/- The program's run. `main` reshapes the argument to 12288 rows of 512, launches the kernel (no window and no grid: one
   run of the body, which moves the rows itself) and reshapes the rows it wrote back to the argument's shape. From the
   body's run (`body_run`), `run` says that the result ends equal to the argument, the argument as it was and every
   semaphore counter at zero. Hand-written, untrusted. -/
module

public import proofs.«01_k».proof.Proof.Body
public import proofs.«01_k».proof.Proof.Gen.Kernel.Frame
public import Idealize.ShloMosaic.Lib.Claim

@[expose] public section

set_option maxRecDepth 16384

noncomputable section

namespace Cert.Kernel.Copy

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The propositions of the proof: the pipeline library's algebra beside the transfers' counters. -/
local notation "𝕄" => MT nD τ sig Unit (Elt F) ℕ (Pipeline.UD sig nD τ) ℕ

variable (m : (ℓ : Loc nD τ sig) → Buf (Elt F) ℓ) (g : Dev nD → PrngReg)

/-! ## What the launch is given -/

/-- The body's own six semaphores. -/
abbrev osem0 : Fin 6 → SemLoc sig :=
  fun j => (![SemLoc.dma 0, SemLoc.dma 1, SemLoc.dma 2, SemLoc.dma 3, SemLoc.dma 4, SemLoc.dma 5] : Fin 6 → SemLoc sig) j

/-- They are the kernel's own: scoped, distinct, and none of them a window's. -/
theorem ownSemFacts0 : Pipeline.OwnSemFacts cfg0.spec osem0 := by decide

/-- The array the body reads in HBM. -/
def H0 : Finset (Ref sig .tc) := {main_v0}
/-- The array the body writes in HBM. -/
def R0 : Finset (Ref sig .tc) := {main_v1}

/-- It is an array of the program that no window stages. -/
theorem H0_sub : H0 ⊆ Pipeline.restRefs sig cfg0.spec := by decide
/-- So is this one, and it is another array. -/
theorem R0_sub : R0 ⊆ Pipeline.restRefs sig cfg0.spec \ H0 := by decide

/-- The arrays' contents when the kernel returns: as it found them, the destination now what the source is. -/
def G (c : Dev nD) : (b : Ref sig .tc) → Buf (Elt F) ((c : Thread nD τ).loc b) :=
  Function.update (V m c) main_v1 (V m c main_v0)

/-- The destination ends equal to the source. -/
theorem G_dst (c : Dev nD) : G m c main_v1 = V m c main_v0 := Function.update_self ..

/-- What the launch hands the body and takes back, piece by piece: the buffers, the semaphores at zero, the source as
    found and the destination read off `D`. -/
theorem held_eq (D : (c : Dev nD) → (b : Ref sig .tc) → Buf (Elt F) ((c : Thread nD τ).loc b)) (c : Dev nD) :
    (Pipeline.ΦDRV osem0 cfg0.spec H0 R0 (V m) D c : sProp 𝕄)
      = iprop(scratch (F := F) c ∗ cells (F := F) c ∗ held (F := F) c src (V m c main_v0) ∗ held (F := F) c dst (D c main_v1)) := by
  unfold Pipeline.ΦDRV
  rw [scopedRest0_eq, Pipeline.ownSems0_eq_of_list c osem0 [0, 1, 2, 3, 4, 5] (by decide) (by decide),
    BI.bigSep_eq_bigSepL_of_eq [main_v0] (by decide) (by decide), BI.bigSep_eq_bigSepL_of_eq [main_v1] (by decide) (by decide)]
  rfl

/-- The launch's data on core `c`: no window; the destination as found before the body's one run, a copy of the source
    after it. -/
def dats (_ : Fin 1) (c : Dev nD) : Dat τ (Elt F) Unit ℕ (Pipeline.UD sig nD τ) ℕ cfg0 c where
  A w := w.elim0
  after w _ := w.elim0
  Φ t := Pipeline.ΦDRV osem0 cfg0.spec H0 R0 (V m) (if t.val = 0 then V m else G m) c
  q _ := fullShare
  owed _ := 0

/-! ## The body at the launch's one point -/

/-- The body takes what is held before it to what is held after it. -/
theorem body_at (c : Dev nD) (t : Fin cfg0.N) :
    iprop((dats m 0 c).Φ t.castSucc ∗ (dats m 0 c).owesAt () t.castSucc)
      ⊢ wp frame (wpE (defs₀ (F := F)) Variants.none c none) Set.univ (bodyAt0 t)
          (fun _ => iprop((dats m 0 c).Φ t.succ ∗ (dats m 0 c).owesAt () t.succ)) := by
  have h0 : (t.castSucc).val = 0 := by rw [fin_N0 t]; rfl
  have hi : (dats m 0 c).Φ t.castSucc = Pipeline.ΦDRV osem0 cfg0.spec H0 R0 (V m) (V m) c := by
    dsimp only [dats]; rw [if_pos h0]
  have ho : (dats m 0 c).Φ t.succ = Pipeline.ΦDRV osem0 cfg0.spec H0 R0 (V m) (G m) c := by
    dsimp only [dats]; rw [if_neg (by simp)]
  rw [hi, ho, held_eq, held_eq, G_dst]
  unfold Dat.owesAt Pipeline.owesWithin bodyAt0
  rw [show (dats m 0 c).owed t.castSucc = 0 from rfl, show (dats m 0 c).owed t.succ = 0 from rfl]
  iintro ⟨⟨Hb, Hc, Hs, Hd⟩, ⟨%W, -, HW⟩⟩
  iapply (body_run c (V m c main_v0) (V m c main_v1) W _)
  iframe Hb Hc Hs Hd HW
  iintro ⟨Hb, Hc, Hs, Hd, ⟨%W', HW'⟩⟩
  isplitl [Hb Hc Hs Hd]
  · iframe Hb Hc Hs Hd
  iexists W'
  isplitr
  · ipureintro; exact fun _ _ => Or.inl trivial
  iexact HW'

/-- The same in the form the launch takes: there is no window to hold beside it. -/
theorem body_obligation (c : Dev nD) : BodyObligation (dats (F := F) m 0 c) (defs₀ (F := F)) Variants.none () Set.univ := fun t => by
  have : IsEmpty (Fin cfg0.W) := ⟨fun w => w.elim0⟩
  rw [Finset.univ_eq_empty, bigSep_empty, bigSep_empty,
    show defs₀ (F := F) .tc cfg0.body (cfg0.bodyArgs t (cfg0.slots t)) = bodyAt0 t by unfold defs₀; rw [Defs.onTc_tc]]
  refine triple_restated (body_at m c t) rfl ?_ fun _ => ?_
  · iintro ⟨Hi, Ho, -⟩
    iframe Hi Ho
  · iintro ⟨Hi, Ho⟩
    iframe Hi Ho
    iempintro

/-- What is held when the kernel returns: the destination is a copy of the source. -/
theorem last_eq (c : Dev nD) :
    (dats m 0 c).Φ (Fin.last cfg0.N) = Pipeline.ΦDRV osem0 cfg0.spec H0 R0 (V m) (G m) c := by
  have h : (Fin.last cfg0.N).val ≠ 0 := by rw [Fin.val_last]; exact N_0.trans_ne Nat.one_ne_zero
  dsimp only [dats]; rw [if_neg h]

/-! ## The values around the launch -/

/-- The source, when the kernel starts, is the argument read at 12288 rows of 512. -/
theorem entry_src (c : Dev nD) : V m c main_v0
    = shapeCast S12288x512 (m ((c : Thread nD τ).loc main_arg0) : S8x3x512x512.Idx → Elt F .f32) shapeCasts_S8x3x512x512_S12288x512 := by
  unfold V V0
  simp only [hostOps0, List.flatten_cons, List.flatten_nil, List.append_nil]
  after_results
  rfl

/-- Reshaping an array to 12288 rows of 512 and back to its own shape changes nothing. -/
theorem rows_and_back (x : S8x3x512x512.Idx → Elt F .f32) :
    shapeCast S8x3x512x512 (shapeCast S12288x512 x shapeCasts_S8x3x512x512_S12288x512) shapeCasts_S12288x512_S8x3x512x512 = x := by
  funext j
  unfold shapeCast
  rw [Shape.reshapeEquiv_reshapeEquiv, Shape.reshapeEquiv_self]

/-! ## The run -/

/-- `main` up to the kernel, the reshape after it left to do. -/
theorem main_around : Pipeline.HMainK (Ix := Unit) (Name := ℕ) (U := Pipeline.UD sig nD τ) (Lvl := ℕ) cfgs 0 defs₀ Variants.none m
    (main (F := F)) (V m) (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

set_option backward.isDefEq.respectTransparency.types false in
/-- Every execution ends, nothing faulting, with the result equal to the argument, the argument as it was and every
    semaphore counter at zero. -/
theorem run : θ_run defs (onTc (τ := τ) (main (F := F))) ⟨m, fun _ => 0, g⟩ (fun r => (∀ c : Dev nD,
      r.2.mem ((c.tc : Thread nD τ).loc main_v2) = m ((c.tc : Thread nD τ).loc main_arg0)
      ∧ r.2.mem ((c.tc : Thread nD τ).loc main_arg0) = m ((c.tc : Thread nD τ).loc main_arg0))
      ∧ r.2.sem = fun _ => 0) := by
  refine Pipeline.θ_run_frame_dmaR_aroundV (Q' := _) cfgs (dats m) (0 : Fin 1) launch0 osem0 defs₀ Variants.none ownSemFacts0 H0 R0 H0_sub R0_sub m g main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := main_around m) (hA := fun _ w => w.elim0) (hin := fun _ => .rfl) (hout := fun c => Entails.of_eq (last_eq m c)) (hQ' := fun r h => ⟨fun c => ⟨?_, ?_⟩, h.2⟩)
  · refine ((h.1 c).2 main_v2 (Pipeline.mem_restRefs_of main_v2 (by decide) (by decide))).trans ?_
    simp only [hostOps1, List.flatten_cons, List.flatten_nil, List.append_nil]
    after_results
    rw [Pipeline.withArrays_of_ne _ c _ _ main_v1 (by exact fun w => w.elim0), Pipeline.withR_of_mem _ R0 c _ main_v1 (by decide), G_dst,
      entry_src]
    exact rows_and_back _
  · refine ((h.1 c).2 main_arg0 (Pipeline.mem_restRefs_of main_arg0 (by decide) (by decide))).trans ?_
    simp only [hostOps1, List.flatten_cons, List.flatten_nil, List.append_nil]
    after_results
    rw [Pipeline.withArrays_of_ne _ c _ _ main_arg0 (by exact fun w => w.elim0), Pipeline.withR_of_not_mem _ R0 c _ main_arg0 (by decide)]
    exact V_main_arg0 m c

end Cert.Kernel.Copy

end
-- ==== Proof.lean ====
module

public import proofs.«01_k».proof.Defs
public import proofs.«01_k».proof.Proof.Gen.KernelIdeal
public import proofs.«01_k».proof.Proof.Gen.ReferenceIdeal
public import proofs.«01_k».proof.Proof.Gen.Reference
public import proofs.«01_k».proof.Proof.Run
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- The kernel at the extended reals: the two printed programs are one text, so its run is the kernel's at `Ideal`. -/
theorem kernel_ideal_run (m : (ℓ : Loc KernelIdeal.nD KernelIdeal.τ KernelIdeal.sig) → Buf (Elt Ideal) ℓ) (g : Dev KernelIdeal.nD → PrngReg) :
    letI := KernelIdeal.Gen.facts
    θ_run (KernelIdeal.defs (F := Ideal)) (onTc (τ := KernelIdeal.τ) (KernelIdeal.main (F := Ideal))) ⟨m, fun _ => 0, g⟩ (fun r => (∀ c : Dev KernelIdeal.nD,
      r.2.mem ((c.tc : Thread KernelIdeal.nD KernelIdeal.τ).loc KernelIdeal.main_v2) = m ((c.tc : Thread KernelIdeal.nD KernelIdeal.τ).loc KernelIdeal.main_arg0)
      ∧ r.2.mem ((c.tc : Thread KernelIdeal.nD KernelIdeal.τ).loc KernelIdeal.main_arg0) = m ((c.tc : Thread KernelIdeal.nD KernelIdeal.τ).loc KernelIdeal.main_arg0))
      ∧ r.2.sem = fun _ => 0) :=
  Kernel.Copy.run (F := Ideal) m g

/-- The reference, at any interpretation of the floats, ends with its argument, which is its result, as it was and with
    every semaphore counter at zero (it has none). -/
theorem reference_run {F : FTy → Type} [FloatOps F] (m : (ℓ : Loc Reference.nD Reference.τ Reference.sig) → Buf (Elt F) ℓ) (g : Dev Reference.nD → PrngReg) :
    letI := Reference.Gen.facts
    θ_run (Reference.defs (F := F)) (onTc (τ := Reference.τ) (Reference.main (F := F))) ⟨m, fun _ => 0, g⟩ (fun r => (∀ c : Dev Reference.nD,
      r.2.mem ((c.tc : Thread Reference.nD Reference.τ).loc Reference.main_arg0) = m ((c.tc : Thread Reference.nD Reference.τ).loc Reference.main_arg0))
      ∧ r.2.sem = fun _ => 0) :=
  θ_run_mono (StableHlo.run_hlo _ _ (ops := []) (fun _ => rfl) (by decide) (by decide) trivial (fun _ h => nomatch h) m g)
    fun r h => ⟨fun c => h c Reference.main_arg0, sem_eq_zero_of_no_sems rfl r.2⟩

/-- The reference at the extended reals, likewise one text with the reference. -/
theorem reference_ideal_run (m : (ℓ : Loc ReferenceIdeal.nD ReferenceIdeal.τ ReferenceIdeal.sig) → Buf (Elt Ideal) ℓ) (g : Dev ReferenceIdeal.nD → PrngReg) :
    letI := ReferenceIdeal.Gen.facts
    θ_run (ReferenceIdeal.defs (F := Ideal)) (onTc (τ := ReferenceIdeal.τ) (ReferenceIdeal.main (F := Ideal))) ⟨m, fun _ => 0, g⟩ (fun r =>
      (∀ c : Dev ReferenceIdeal.nD, r.2.mem ((c.tc : Thread ReferenceIdeal.nD ReferenceIdeal.τ).loc ReferenceIdeal.main_arg0)
        = m ((c.tc : Thread ReferenceIdeal.nD ReferenceIdeal.τ).loc ReferenceIdeal.main_arg0))
      ∧ r.2.sem = fun _ => 0) :=
  reference_run (F := Ideal) m g

/-- Every claim of the certificate: the kernel's result is its argument, and so is the reference's. -/
theorem claim : Cert.Claim := by
  refine ⟨Kernel.Gen.facts, KernelIdeal.Gen.facts, ReferenceIdeal.Gen.facts, Reference.Gen.facts,
    fun m g _ => θ_run_mono (Kernel.Copy.run m g) fun _ h => ⟨fun c => (h.1 c).2, h.2⟩,
    fun m g _ => θ_run_mono (kernel_ideal_run m g) fun _ h => ⟨fun c => (h.1 c).2, h.2⟩,
    fun m g _ => reference_ideal_run m g, fun m g _ => reference_run m g, trivial, ?_, ?_⟩
  · exact fun m g m' g' _ agree => ⟨fun c => m ((c.tc : Thread KernelIdeal.nD KernelIdeal.τ).loc KernelIdeal.main_arg0),
      θ_run_mono (kernel_ideal_run m g) fun _ h => h.1,
      θ_run_mono (reference_ideal_run m' g') fun _ h c => ⟨(h.1 c).trans (agree c), h.1 c⟩⟩
  · exact fun m g m' g' _ agree => ⟨fun c => m ((c.tc : Thread Kernel.nD Kernel.τ).loc Kernel.main_arg0),
      θ_run_mono (Kernel.Copy.run m g) fun _ h => h.1,
      θ_run_mono (reference_run m' g') fun _ h c => ⟨(h.1 c).trans (agree c), h.1 c⟩⟩

end Cert.Proof

end
